-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_symmetric_finite [hPre_symmetric_finite : Cert.Pre_symmetric_finite.Facts] (m : (ℓ : Loc Cert.KernelIdeal.nD Cert.KernelIdeal.τ Cert.KernelIdeal.sig) → Buf (Elt Ideal) ℓ) : Prop :=
  ∀ c : Dev Cert.KernelIdeal.nD,
    (Cert.Pre_symmetric_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_symmetric_finite [hPre_symmetric_finite : Cert.Pre_symmetric_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symmetric_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_symmetric_finite [hKernelIdeal : Cert.KernelIdeal.Facts] [hPre_symmetric_finite : Cert.Pre_symmetric_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_symmetric_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_symmetric_finite [hReferenceIdeal : Cert.ReferenceIdeal.Facts] [hPre_symmetric_finite : Cert.Pre_symmetric_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_symmetric_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_symmetric_finite [hKernelIdeal : Cert.KernelIdeal.Facts] [hReferenceIdeal : Cert.ReferenceIdeal.Facts] [hPre_symmetric_finite : Cert.Pre_symmetric_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_symmetric_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_symmetric_finite : Cert.Pre_symmetric_finite.Facts),
    quiescent_Kernel (hKernel := hKernel)
    ∧ quiescent_KernelIdeal (hKernelIdeal := hKernelIdeal)
    ∧ quiescent_KernelIdeal_pre_symmetric_finite (hKernelIdeal := hKernelIdeal) (hPre_symmetric_finite := hPre_symmetric_finite)
    ∧ quiescent_ReferenceIdeal (hReferenceIdeal := hReferenceIdeal)
    ∧ quiescent_ReferenceIdeal_pre_symmetric_finite (hReferenceIdeal := hReferenceIdeal) (hPre_symmetric_finite := hPre_symmetric_finite)
    ∧ preserves_Kernel_KernelIdeal
    ∧ algebraic_KernelIdeal_ReferenceIdeal_pre_symmetric_finite (hKernelIdeal := hKernelIdeal) (hReferenceIdeal := hReferenceIdeal) (hPre_symmetric_finite := hPre_symmetric_finite)
-- ==== Pre_symmetric_finite.lean ====
abbrev S8192x4096 : Shape := ⟨2, ![8192, 4096]⟩
abbrev S4096x4096 : Shape := ⟨2, ![4096, 4096]⟩
abbrev S4096 : Shape := ⟨1, ![4096]⟩
abbrev S1 : Shape := ⟨1, ![1]⟩
abbrev S_ : Shape := ⟨0, ![]⟩

class Facts : Prop where
  bcast_S_S1 : S_.BroadcastsInDim S1 (![] : Fin 0 → Fin S1.rank)
  bcast_S_S4096 : S_.BroadcastsInDim S4096 (![] : Fin 0 → Fin S4096.rank)
  bcast_S1_S4096_0 : S1.BroadcastsInDim S4096 (![0] : Fin 1 → Fin S4096.rank)

variable [Facts]

def fn {F : FTy → Type} [FloatOps F] (main_arg0 : IVec S8192x4096 32) (main_arg1 : IVec S4096x4096 32) (main_arg2 : FVec F S4096 .f32) (main_arg3 : FVec F S1 .f32) (main_arg4 : IVec S1 32) (main_arg5 : FVec F S4096 .f32) (main_arg6 : IVec S4096 32) : IVec S4096 1 :=
  let main_c : IVec S_ 32 := constantI S_ 32 0#32
  let main_v0 : IVec S1 32 := broadcastInDim S1 ![] bcast_S_S1 main_c
  let main_v1 : IVec S1 1 := cmpi .eq main_arg4 main_v0
  let main_c_0 : IVec S_ 32 := constantI S_ 32 0#32
  let main_v2 : IVec S4096 32 := broadcastInDim S4096 ![] bcast_S_S4096 main_c_0
  let main_v3 : IVec S4096 1 := cmpi .eq main_arg6 main_v2
  let main_v4 : IVec S4096 1 := broadcastInDim S4096 ![0] bcast_S1_S4096_0 main_v1
  let main_v5 : IVec S4096 1 := andi main_v4 main_v3
  let main_v6 : FVec F S1 .f32 := Host.absf main_arg3
  let main_cst : FVec F S_ .f32 := constant S_ .f32 0x7F800000#32
  let main_v7 : FVec F S1 .f32 := broadcastInDim S1 ![] bcast_S_S1 main_cst
  let main_v8 : IVec S1 1 := cmpf .olt main_v6 main_v7
  let main_v9 : IVec S4096 1 := broadcastInDim S4096 ![0] bcast_S1_S4096_0 main_v8
  let main_v10 : IVec S4096 1 := andi main_v5 main_v9
  let main_v11 : FVec F S4096 .f32 := Host.absf main_arg5
  let main_cst_1 : FVec F S_ .f32 := constant S_ .f32 0x7F800000#32
  let main_v12 : FVec F S4096 .f32 := broadcastInDim S4096 ![] bcast_S_S4096 main_cst_1
  let main_v13 : IVec S4096 1 := cmpf .olt main_v11 main_v12
  let main_v14 : IVec S4096 1 := andi main_v10 main_v13
  main_v14
-- ==== Kernel.lean ====
abbrev S8192x4096 : Shape := ⟨2, ![8192, 4096]⟩
abbrev S4096x4096 : Shape := ⟨2, ![4096, 4096]⟩
abbrev S4096 : Shape := ⟨1, ![4096]⟩
abbrev S1 : Shape := ⟨1, ![1]⟩
abbrev S1x1 : Shape := ⟨2, ![1, 1]⟩
abbrev S1x4096 : Shape := ⟨2, ![1, 4096]⟩
abbrev S256x4096 : Shape := ⟨2, ![256, 4096]⟩

abbrev nBuf : Space → Nat
  | .hbm => 11
  | .vmem => 10
  | .smem => 0
  | _ => 0

abbrev bufTy : (tb : Table) → Fin (tcTables nBuf tb) → BufTy
  | .hbm, ⟨0, _⟩ => ⟨S8192x4096, .i32⟩
  | .hbm, ⟨1, _⟩ => ⟨S4096x4096, .i32⟩
  | .hbm, ⟨2, _⟩ => ⟨S4096, .f32⟩
  | .hbm, ⟨3, _⟩ => ⟨S1, .f32⟩
  | .hbm, ⟨4, _⟩ => ⟨S1, .i32⟩
  | .hbm, ⟨5, _⟩ => ⟨S4096, .f32⟩
  | .hbm, ⟨6, _⟩ => ⟨S4096, .i32⟩
  | .hbm, ⟨7, _⟩ => ⟨S1x1, .f32⟩
  | .hbm, ⟨8, _⟩ => ⟨S1x4096, .f32⟩
  | .hbm, ⟨9, _⟩ => ⟨S1x4096, .f32⟩
  | .hbm, ⟨10, _⟩ => ⟨S8192x4096, .f32⟩
  | .local _ .vmem, ⟨0, _⟩ => ⟨S256x4096, .i32⟩
  | .local _ .vmem, ⟨1, _⟩ => ⟨S256x4096, .i32⟩
  | .local _ .vmem, ⟨2, _⟩ => ⟨S256x4096, .i32⟩
  | .local _ .vmem, ⟨3, _⟩ => ⟨S256x4096, .i32⟩
  | .local _ .vmem, ⟨4, _⟩ => ⟨S1x1, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S4096x4096, .bf16⟩
  | _, _ => ⟨S8192x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c256_i32 : BitVec 32 := 256#32
  let v8 : BitVec 32 := Scalar.muli arg0 c256_i32
  let v9 : Index := Scalar.indexCast v8
  let c0_3 : Index := 0#32
  ![v9.toNat, 0]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1 : Shape := ⟨1, ![1]⟩
abbrev S1x1 : Shape := ⟨2, ![1, 1]⟩
abbrev S4096x1 : Shape := ⟨2, ![4096, 1]⟩
abbrev S1x4096 : Shape := ⟨2, ![1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .i32⟩
  | .hbm, ⟨1, _⟩ => ⟨S4096x4096, .i32⟩
  | .hbm, ⟨2, _⟩ => ⟨S4096, .f32⟩
  | .hbm, ⟨3, _⟩ => ⟨S1, .f32⟩
  | .hbm, ⟨4, _⟩ => ⟨S1, .i32⟩
  | .hbm, ⟨5, _⟩ => ⟨S4096, .f32⟩
  | .hbm, ⟨6, _⟩ => ⟨S4096, .i32⟩
  | .hbm, ⟨7, _⟩ => ⟨S8192x4096, .f32⟩
  | .hbm, ⟨8, _⟩ => ⟨S1, .f32⟩
  | .hbm, ⟨9, _⟩ => ⟨S1x1, .f32⟩
  | .hbm, ⟨10, _⟩ => ⟨S8192x4096, .f32⟩
  | .hbm, ⟨11, _⟩ => ⟨S8192x4096, .f32⟩
  | .hbm, ⟨12, _⟩ => ⟨S1x1, .f32⟩
  | .hbm, ⟨13, _⟩ => ⟨S8192x4096, .f32⟩
  | .hbm, ⟨14, _⟩ => ⟨S8192x4096, .f32⟩
  | .hbm, ⟨15, _⟩ => ⟨S4096x4096, .f32⟩
  | .hbm, ⟨16, _⟩ => ⟨S4096x1, .i32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | _, _ => ⟨S8192x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Cases.lean ====
/- The kernel's body, run once in each of its two cases: a step that casts 256 rows of the weight into the scratch, and a step
   that multiplies 256 rows of the activation by the whole scratch. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Resident

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

set_option maxHeartbeats 1000000 in
/-- A casting step (first condition true, second false): it reads its weight block `x1` and leaves the scratch with the block,
    cast to `bf16`, written over 256 of its rows and the rest as it was. No other buffer is touched. -/
theorem run_cast (c : Dev nD) (i : grid0.Coords) (arg1 : Memref sig .tc .vmem S256x4096 .i32) (harg1 : arg1.IsWhole) (arg2 : Memref sig .tc .vmem S256x4096 .i32) (harg2 : arg2.IsWhole) (arg3 : Memref sig .tc .vmem S1x1 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S4096x4096 .bf16) (harg7 : arg7.IsWhole)
    (hc0 : k0_cond1 i = 1#1) (hc1 : ¬ k0_cond2 i = 1#1) (x1 : Vec F S256x4096 .i32) (w : Vec F S4096x4096 .bf16)
    (E : Set ℕ) (K : PUnit → sProp 𝕄) :
    iprop(owns (c : Thread nD τ) arg2 fullShare x1 ∗ owns (c : Thread nD τ) arg7 fullShare w
        ∗ (iprop(owns (c : Thread nD τ) arg2 fullShare x1 ∗ owns (c : Thread nD τ) arg7 fullShare (VecWindow.put w (k0_off1 i) S256x4096.size (k0_pay1 x1))) -∗ K ⟨⟩))
      ⊢ wp frame (wpE (defs₀ (F := F)) Variants.none c none) E (cc0__qlinear_kernel i arg1 harg1 arg2 harg2 arg3 harg3 arg4 harg4 arg5 harg5 arg6 harg6 arg7 harg7) K := by
  simp only [cc0__qlinear_kernel_eq_skeleton]; unfold cc0__qlinear_kernel_skel
  unfold owns
  iintro ⟨⟨%f1, %hf1, H1⟩, ⟨%f7, %hf7, H7⟩, Hk⟩
  obtain rfl := harg2.eq_unread hf1; obtain rfl := harg7.eq_unread hf7
  sl_exec (disch := first | sl_exact hc0 | sl_exact hc1)
  sl_step
  iapply Hk
  isplitl [H1]
  · iexists _; isplitr; · ipureintro; exact harg2.read_unread _
    iexact H1
  iexists _; isplitr; swap; · iexact H7
  ipureintro
  exact (View.read_writes_cons_put arg7.view _ _ _ [] rfl).trans (by rw [View.writes_nil, harg7.read_unread, View.readAt_full, harg2.read_unread])

set_option maxHeartbeats 1000000 in
/-- A multiplying step (first condition false, second true): it leaves in the output's block the product of its activation
    block `x0` with the scratch `w`, times the scales `x2` and `x3`, plus the bias `x4`; every buffer it reads stays as it was. -/
theorem run_mul (c : Dev nD) (i : grid0.Coords) (arg1 : Memref sig .tc .vmem S256x4096 .i32) (harg1 : arg1.IsWhole) (arg2 : Memref sig .tc .vmem S256x4096 .i32) (harg2 : arg2.IsWhole) (arg3 : Memref sig .tc .vmem S1x1 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S4096x4096 .bf16) (harg7 : arg7.IsWhole)
    (hc0 : ¬ k0_cond1 i = 1#1) (hc1 : k0_cond2 i = 1#1) (x0 : Vec F S256x4096 .i32) (x2 : Vec F S1x1 .f32) (x3 x4 : Vec F S1x4096 .f32)
    (y : Vec F S256x4096 .f32) (w : Vec F S4096x4096 .bf16)
    (E : Set ℕ) (K : PUnit → sProp 𝕄) :
    iprop(owns (c : Thread nD τ) arg1 fullShare x0 ∗ owns (c : Thread nD τ) arg3 fullShare x2 ∗ owns (c : Thread nD τ) arg4 fullShare x3
        ∗ owns (c : Thread nD τ) arg5 fullShare x4 ∗ owns (c : Thread nD τ) arg6 fullShare y ∗ owns (c : Thread nD τ) arg7 fullShare w
        ∗ (iprop(owns (c : Thread nD τ) arg1 fullShare x0 ∗ owns (c : Thread nD τ) arg3 fullShare x2 ∗ owns (c : Thread nD τ) arg4 fullShare x3
          ∗ owns (c : Thread nD τ) arg5 fullShare x4 ∗ owns (c : Thread nD τ) arg6 fullShare (k0_pay2 x0 w x2 x3 x4) ∗ owns (c : Thread nD τ) arg7 fullShare w) -∗ K ⟨⟩))
      ⊢ wp frame (wpE (defs₀ (F := F)) Variants.none c none) E (cc0__qlinear_kernel i arg1 harg1 arg2 harg2 arg3 harg3 arg4 harg4 arg5 harg5 arg6 harg6 arg7 harg7) K := by
  simp only [cc0__qlinear_kernel_eq_skeleton]; unfold cc0__qlinear_kernel_skel
  unfold owns
  iintro ⟨⟨%f0, %hf0, H0⟩, ⟨%f2, %hf2, H2⟩, ⟨%f3, %hf3, H3⟩, ⟨%f4, %hf4, H4⟩, ⟨%f5, %hf5, H5⟩, ⟨%f7, %hf7, H7⟩, Hk⟩
  obtain rfl := harg1.eq_unread hf0; obtain rfl := harg3.eq_unread hf2; obtain rfl := harg4.eq_unread hf3
  obtain rfl := harg5.eq_unread hf4; obtain rfl := harg6.eq_unread hf5; obtain rfl := harg7.eq_unread hf7
  sl_exec (disch := first | sl_exact hc0 | sl_exact hc1)
  sl_step
  iapply Hk
  isplitl [H0]
  · iexists _; isplitr; · ipureintro; exact harg1.read_unread _
    iexact H0
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    exact (View.read_writes_full arg6.view _ _ _ []).trans (by
      rw [View.readAt_full, View.readAt_full, View.readAt_full, View.readAt_full, View.readAt_full,
        harg1.read_unread, harg7.read_unread, harg3.read_unread, harg4.read_unread, harg5.read_unread])
  · iexists _; isplitr; · ipureintro; exact harg7.read_unread _
    iexact H7

end Cert.KernelIdeal.Resident

end
-- ==== Proof.Track.lean ====
/- The run of the kernel, followed from grid point to grid point, at any reading of the floats. The scratch is the only thing one
   point leaves to the next: before point `t` its first `256 t` rows are the cast weight's, so from point 16 on it is the whole
   cast weight, and each later point's output block is a function of the arguments alone. -/
module

public import proofs.«01_k».proof.Proof.Cases
public import Idealize.ShloMosaic.Lib.Pipeline.ValueKit
public import Idealize.ShloMosaic.Lib.Claim

@[expose] public section

set_option maxRecDepth 16384

noncomputable section

namespace Cert.KernelIdeal.Resident

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first condition of the body holds exactly at the first sixteen points: these cast the weight. -/
theorem casts_iff : ∀ t : Fin cfg0.N, k0_cond1 (grid0.coords t) = 1#1 ↔ t.val < 16 :=
  (by decide +kernel : ∀ t : Fin grid0.N, k0_cond1 (grid0.coords t) = 1#1 ↔ t.val < 16)

/-- The second condition holds exactly from point 16 on: these multiply. -/
theorem multiplies_iff : ∀ t : Fin cfg0.N, k0_cond2 (grid0.coords t) = 1#1 ↔ 16 ≤ t.val :=
  (by decide +kernel : ∀ t : Fin grid0.N, k0_cond2 (grid0.coords t) = 1#1 ↔ 16 ≤ t.val)

/-- A casting point `t` stores its rows at row `256 t` of the scratch. -/
theorem cast_off : ∀ t : Fin cfg0.N, t.val < 16 → k0_off1 (grid0.coords t) = ![256 * t.val, 0] :=
  (by decide +kernel : ∀ t : Fin grid0.N, t.val < 16 → k0_off1 (grid0.coords t) = ![256 * t.val, 0])

/-- At a casting point `t` the weight's block is the one of index `t`. -/
theorem weight_index : ∀ t : Fin cfg0.N, t.val < 16 → win0_1.index t = ![t.val, 0] :=
  (by decide +kernel : ∀ t : Fin grid0.N, t.val < 16 → win0_1.index t = ![t.val, 0])

/-- A casting point leaves the output's staging buffer alone. -/
theorem out_idle : ∀ t : Fin cfg0.N, t.val < 16 → cfg0.idle 5 (grid0.coords t) = true :=
  (by decide +kernel : ∀ t : Fin grid0.N, t.val < 16 → idle0 5 (grid0.coords t) = true)

/-- A casting point does not write the output's staging buffer back. -/
theorem out_kept : ∀ t : Fin cfg0.N, t.val < 16 → (cfg0.win 5).flush t = false :=
  (by decide +kernel : ∀ t : Fin grid0.N, t.val < 16 → win0_5.flush t = false)

/-- A multiplying point does store into the output's staging buffer. -/
theorem out_live : ∀ t : Fin cfg0.N, 16 ≤ t.val → cfg0.idle 5 (grid0.coords t) = false :=
  (by decide +kernel : ∀ t : Fin grid0.N, 16 ≤ t.val → idle0 5 (grid0.coords t) = false)

/-! ## The proof data -/

/-- The whole weight cast to `bf16`: what the scratch holds once it is full. -/
def weight (c : Dev nD) : Vec F S4096x4096 .bf16 := sitofp .bf16 (V m c main_arg1 : Vec F S4096x4096 .i32)

/-- The scratch, at point `t`: its first `256 t` rows are the cast weight's. -/
def scratchAt (c : Dev nD) (t : ℕ) (s : Vec F S4096x4096 .bf16) : Prop :=
  ∀ j : S4096x4096.Idx, (j 0).val < 256 * t → s j = weight m c j

/-- The proof data: each input's buffer keeps its block, a multiplying point leaves in the output's buffer the product of
    its block of `x` with the whole cast weight, scaled and biased; between the points the scratch holds the rows cast so
    far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (iblk m c 0 t) (weight m c) (iblk m c 2 t) (iblk m c 3 t) (iblk m c 4 t)
  Φ t := iprop((∃ s, ⌜scratchAt m c t.val s⌝ ∗ owns (c : Thread nD τ) (Memref.whole cc0_scratch0) fullShare s) ∗ (∃ r, prngReg c r))
  q _ := fullShare
  owed _ := 0

/-- The arrays of the proof data are the ones the kernel is launched on. -/
theorem A_eq (c : Dev nD) (w : Fin cfg0.W) : (dats m 0 c).A w = V m c (Pipeline.arrRef spec0 w) := by dsimp only [dats]
/-- A point leaves the block of the activation as it was. -/
theorem after0 (c : Dev nD) (t : Fin cfg0.N) : (dats m 0 c).after 0 t = iblk m c 0 t := by dsimp only [dats]
/-- A point leaves the block of the weight as it was. -/
theorem after1 (c : Dev nD) (t : Fin cfg0.N) : (dats m 0 c).after 1 t = iblk m c 1 t := by dsimp only [dats]
/-- A point leaves the activation's scale as it was. -/
theorem after2 (c : Dev nD) (t : Fin cfg0.N) : (dats m 0 c).after 2 t = iblk m c 2 t := by dsimp only [dats]
/-- A point leaves the channel scales as they were. -/
theorem after3 (c : Dev nD) (t : Fin cfg0.N) : (dats m 0 c).after 3 t = iblk m c 3 t := by dsimp only [dats]
/-- A point leaves the biases as they were. -/
theorem after4 (c : Dev nD) (t : Fin cfg0.N) : (dats m 0 c).after 4 t = iblk m c 4 t := by dsimp only [dats]
/-- A point leaves in the output's buffer its block of the product with the whole cast weight, scaled and biased. -/
theorem after5 (c : Dev nD) (t : Fin cfg0.N) : (dats m 0 c).after 5 t
    = k0_pay2 (iblk m c 0 t) (weight m c) (iblk m c 2 t) (iblk m c 3 t) (iblk m c 4 t) := by dsimp only [dats]
/-- Between the points the scratch holds the rows cast so far, and the random generator some state. -/
theorem Φ_eq (c : Dev nD) (t : Fin (cfg0.N + 1)) : (dats m 0 c).Φ t
    = iprop((∃ s, ⌜scratchAt m c t.val s⌝ ∗ owns (c : Thread nD τ) (Memref.whole cc0_scratch0) fullShare s) ∗ (∃ r, prngReg c r)) := by dsimp only [dats]

/-- The class invariant: the scratch at some contents and the generator's register. -/
theorem classInv_eq (c : Dev nD) : (Pipeline.ΦA spec0 c : sProp 𝕄)
    = iprop((∃ s, owns (c : Thread nD τ) (Memref.whole cc0_scratch0) fullShare s) ∗ (∃ r, prngReg c r)) := by
  unfold Pipeline.ΦA; rw [scopedRest0_eq]; simp only [owns_whole]; try rfl

/-! ## What a casting point does to the scratch -/

/-- After a casting point the scratch's first `256 (t + 1)` rows are the cast weight's. -/
theorem scratchAt_cast (c : Dev nD) (t : Fin cfg0.N) (ht : t.val < 16) (s : Vec F S4096x4096 .bf16) (hs : scratchAt m c t.val s) :
    scratchAt m c (t.val + 1) (VecWindow.put s (k0_off1 (grid0.coords t)) S256x4096.size (k0_pay1 (iblk m c 1 t))) := by
  intro j hj
  rw [cast_off t ht]
  unfold VecWindow.put
  by_cases h : ∀ a : Fin 2, (![256 * t.val, 0] : Fin 2 → ℕ) a ≤ (j a).val ∧ (j a).val < (![256 * t.val, 0] : Fin 2 → ℕ) a + S256x4096.size a
  · rw [dif_pos h]
    have h0 := (h 0).1
    have h1 := (h 1).1
    simp only [Matrix.cons_val_zero, Matrix.cons_val_one] at h0 h1
    unfold weight k0_pay1
    simp only [shapeCast_self]
    refine congrArg (fun n => FloatOps.sitofp (F := F) FTy.bf16 n) ?_
    blk_simp [iblk]
    refine congrArg (V m c main_arg1) (funext fun a => Fin.ext ?_)
    revert a
    refine Fin.forall_fin_two.mpr ⟨?_, ?_⟩
    · show win0_1.index t 0 * 256 + 1 * ((j 0).val - 256 * t.val) = (j 0).val
      rw [weight_index t ht]
      show t.val * 256 + 1 * ((j 0).val - 256 * t.val) = (j 0).val
      omega
    · show win0_1.index t 1 * 4096 + 1 * ((j 1).val - 0) = (j 1).val
      rw [weight_index t ht]
      show 0 * 4096 + 1 * ((j 1).val - 0) = (j 1).val
      omega
  · rw [dif_neg h]
    apply hs
    by_contra hn
    apply h
    have h1 := (j 1).isLt
    refine Fin.forall_fin_two.mpr ⟨?_, ?_⟩
    · show 256 * t.val ≤ (j 0).val ∧ (j 0).val < 256 * t.val + 256
      omega
    · show 0 ≤ (j 1).val ∧ (j 1).val < 0 + 4096
      exact ⟨Nat.zero_le _, by rw [Nat.zero_add]; exact h1⟩

/-- From point 16 on the scratch is the whole cast weight. -/
theorem scratchAt_full (c : Dev nD) (t : ℕ) (ht : 16 ≤ t) (s : Vec F S4096x4096 .bf16) (hs : scratchAt m c t s) : s = weight m c :=
  funext fun j => hs j (lt_of_lt_of_le (show (j 0).val < 4096 from (j 0).isLt) (by omega))

/-! ## The body obligation -/

/-- The staging buffer window `w` uses at point `t`. -/
abbrev st (w : Fin cfg0.W) (t : Fin cfg0.N) := (cfg0.win w).stage (cfg0.slots t w)

/-- What the body is called with at point `t`: the scratch as tracked and every window's staging buffer. -/
def entry (c : Dev nD) (t : Fin cfg0.N) : sProp 𝕄 :=
  iprop((dats m 0 c).Φ t.castSucc ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d))
    ∗ (∃ d, owns (c : Thread nD τ) (st 5 t) fullShare ((dats m 0 c).before 5 t d)))

/-- What the body returns at point `t`: the scratch as tracked for the next point, and every window's staging buffer as left. -/
def exit (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- Input 0 ends a point with its buffer held at its block. -/
theorem leaves0 (c : Dev nD) (t : Fin cfg0.N) : (dats m 0 c).leavesExact 0 t = owns (c : Thread nD τ) (st 0 t) fullShare (iblk m c 0 t) := by
  rw [← after0]
/-- Input 1 ends a point with its buffer held at its block. -/
theorem leaves1 (c : Dev nD) (t : Fin cfg0.N) : (dats m 0 c).leavesExact 1 t = owns (c : Thread nD τ) (st 1 t) fullShare (iblk m c 1 t) := by
  rw [← after1]
/-- Input 2 ends a point with its buffer held at its block. -/
theorem leaves2 (c : Dev nD) (t : Fin cfg0.N) : (dats m 0 c).leavesExact 2 t = owns (c : Thread nD τ) (st 2 t) fullShare (iblk m c 2 t) := by
  rw [← after2]
/-- Input 3 ends a point with its buffer held at its block. -/
theorem leaves3 (c : Dev nD) (t : Fin cfg0.N) : (dats m 0 c).leavesExact 3 t = owns (c : Thread nD τ) (st 3 t) fullShare (iblk m c 3 t) := by
  rw [← after3]
/-- Input 4 ends a point with its buffer held at its block. -/
theorem leaves4 (c : Dev nD) (t : Fin cfg0.N) : (dats m 0 c).leavesExact 4 t = owns (c : Thread nD τ) (st 4 t) fullShare (iblk m c 4 t) := by
  rw [← after4]
/-- From point 16 on the output's buffer ends a point held at the block that point stores. -/
theorem leaves5 (c : Dev nD) (t : Fin cfg0.N) (ht : 16 ≤ t.val) : (dats m 0 c).leavesExact 5 t
    = owns (c : Thread nD τ) (st 5 t) fullShare (k0_pay2 (iblk m c 0 t) (weight m c) (iblk m c 2 t) (iblk m c 3 t) (iblk m c 4 t)) := by
  unfold Dat.leavesExact; rw [out_live t ht, after5]

set_option maxHeartbeats 800000 in
/-- The body's triple at every point: a casting point by `run_cast`, extending the rows the scratch holds; a multiplying
    point by `run_mul`, the scratch being the whole cast weight there. -/
theorem body_triple (c : Dev nD) (t : Fin cfg0.N) :
    entry m c t ⊢ wp frame (wpE (defs₀ (F := F)) Variants.none c none) Set.univ (bodyAt0 t) (fun _ => exit m c t) := by
  unfold entry exit bodyAt0
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c)]
  rw [show (dats m 0 c).owesAt () t.succ = (dats m 0 c).owesAt () t.castSucc from rfl,
    leaves0, leaves1, leaves2, leaves3, leaves4, Φ_eq, Φ_eq]
  by_cases ht : t.val < 16
  · rw [(dats m 0 c).leavesExact_idle 5 t (out_idle t ht) (out_kept t ht)]
    iintro ⟨⟨⟨%s, %hs, HS⟩, Hg⟩, Ho, ⟨%d0, H0⟩, ⟨%d1, H1⟩, ⟨%d2, H2⟩, ⟨%d3, H3⟩, ⟨%d4, H4⟩, ⟨%d5, H5⟩⟩
    iapply (run_cast c (grid0.coords t) _ _ _ _ _ _ _ _ _ _ _ _ _ _ ((casts_iff t).mpr ht)
      (fun h => absurd ((multiplies_iff t).mp h) (by omega)) (iblk m c 1 t) s Set.univ _)
    isplitl [H1]; · iexact H1
    isplitl [HS]; · iexact HS
    iintro ⟨H1, HS⟩
    isplitl [HS Hg]
    · isplitl [HS]
      · iexists _; isplitr; · ipureintro; exact scratchAt_cast m c t ht s hs
        iexact HS
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5
  · have ht' : 16 ≤ t.val := by omega
    rw [leaves5 m c t ht']
    iintro ⟨⟨⟨%s, %hs, HS⟩, Hg⟩, Ho, ⟨%d0, H0⟩, ⟨%d1, H1⟩, ⟨%d2, H2⟩, ⟨%d3, H3⟩, ⟨%d4, H4⟩, ⟨%d5, H5⟩⟩
    obtain rfl := scratchAt_full m c t.val ht' s hs
    iapply (run_mul c (grid0.coords t) _ _ _ _ _ _ _ _ _ _ _ _ _ _ (fun h => ht ((casts_iff t).mp h))
      ((multiplies_iff t).mpr ht') (iblk m c 0 t) (iblk m c 2 t) (iblk m c 3 t) (iblk m c 4 t) _ (weight m c) Set.univ _)
    isplitl [H0]; · iexact H0
    isplitl [H2]; · iexact H2
    isplitl [H3]; · iexact H3
    isplitl [H4]; · iexact H4
    isplitl [H5]; · iexact H5
    isplitl [HS]; · iexact HS
    iintro ⟨H0, H2, H3, H4, H5, HS⟩
    isplitl [HS Hg]
    · isplitl [HS]
      · iexists _; isplitr; · ipureintro; exact fun _ _ => rfl
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The row of the body table at point `t`'s slots is the kernel's body there. -/
theorem body_row (t : Fin cfg0.N) : defs₀ (F := F) .tc cfg0.body (cfg0.bodyArgs t (cfg0.slots t)) = bodyAt0 t := by
  unfold defs₀; rw [Defs.onTc_tc]

/-- The pipeline's body obligation, at every point. -/
theorem obligation (c : Dev nD) : BodyObligation (dats (F := F) m 0 c) (defs₀ (F := F)) Variants.none () Set.univ := fun t => by
  rw [bigSep_W0, bigSep_W0, body_row]
  exact triple_restated (body_triple m c t) rfl .rfl fun _ => .rfl

/-! ## The run -/

set_option backward.isDefEq.respectTransparency.types false in
/-- Every execution of the kernel terminates with each window's array as the proof data say, every other buffer as the
    call found it, and every semaphore counter at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by
      rw [Φ_eq]; refine (show Pipeline.ΦA spec0 c ⊢ _ from ?_); rw [classInv_eq]
      iintro ⟨⟨%s, HS⟩, Hg⟩
      isplitl [HS]
      · iexists s; isplitr; · ipureintro; exact fun j hj => absurd hj (Nat.not_lt_zero _)
        iexact HS
      iexact Hg)
    (hout := fun c => by
      rw [Φ_eq]; refine (show _ ⊢ Pipeline.ΦA spec0 c from ?_); rw [classInv_eq]
      iintro ⟨⟨%s, %hs, HS⟩, Hg⟩
      isplitl [HS]
      · iexists s; iexact HS
      iexact Hg)

/-- Every execution terminates with the argument arrays unchanged and every semaphore counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Resident

end
-- ==== Proof.Equation.lean ====
/- The quantised linear layer as one formula over the extended reals, and the reference's value under the precondition.

   `linear` is the formula the kernel computes: an integer dot product, scaled once, plus the bias. The reference scales every
   factor before it multiplies. For finite scales and zero zero-points the two are one value, because then every term is a real
   number and a real factor moves out of a sum of reals (`dequantised_dot`). -/
module

public import proofs.«01_k».proof.Proof.Gen.ReferenceIdeal.Run
public import proofs.«01_k».proof.Proof.Gen.Pre_symmetric_finite
public import Idealize.ShloMosaic.Lib.Pointwise

@[expose] public section

noncomputable section

namespace Cert.LinearEquation

open Idealize.ShloMosaic Cert.ReferenceIdeal Cert.ReferenceIdeal.Gen

/-- A 32-bit word read as a signed integer, as an extended real. -/
abbrev val (n : BitVec 32) : EReal := ((n.toInt : ℝ) : EReal)

/-- The linear layer: row `i 0` of the activation times row `i 1` of the weight, summed over the 4096 channels as integers,
    times the activation's scale and that output channel's scale, plus that channel's bias. -/
def linear (x : IVec S8192x4096 32) (w : IVec S4096x4096 32) (b : FVec Ideal S4096 .f32) (s : FVec Ideal S1 .f32)
    (ws : FVec Ideal S4096 .f32) : FVec Ideal S8192x4096 .f32 := fun i =>
  (∑ k : Fin 4096, val (x (ix2 (i 0) k)) * val (w (ix2 (i 1) k))) * (s (ix1 0) * ws (ix1 (i 1))) + b (ix1 (i 1))

/-- The sum of finitely many reals is the same number whether it is summed as reals or as extended reals. -/
theorem sum_of_reals {ι : Type} (u : Finset ι) (f : ι → ℝ) : ∑ k ∈ u, (f k : EReal) = ((∑ k ∈ u, f k : ℝ) : EReal) := by
  classical
  induction u using Finset.induction_on with
  | empty => simp
  | insert a u ha ih => rw [Finset.sum_insert ha, Finset.sum_insert ha, ih, EReal.coe_add]

/-- Dequantising before the dot product or after it gives one value: when both scales are real numbers, the sum of the
    products of the scaled factors is the sum of the products of the integers, times the product of the scales. -/
theorem dequantised_dot {ι : Type} (u : Finset ι) (a c : ι → BitVec 32) (s t : ℝ) :
    ∑ k ∈ u, val (a k) * s * (val (c k) * t) = (∑ k ∈ u, val (a k) * val (c k)) * ((s : EReal) * t) := by
  simp only [val, ← EReal.coe_mul, sum_of_reals, Finset.sum_mul]
  exact congrArg _ (Finset.sum_congr rfl fun k _ => by ring)

/-- An extended real whose absolute value lies below infinity is a real number. -/
theorem real_of_abs_lt (x : EReal) (h : max x (-x) < ⊤) : ∃ r : ℝ, x = r := by
  rw [max_lt_iff] at h
  refine ⟨x.toReal, (EReal.coe_toReal h.1.ne fun e => ?_).symm⟩
  rw [e, EReal.neg_bot] at h
  exact lt_irrefl _ h.2

/-- What the precondition says at output channel `o`: the activation's zero point and the channel's are zero, and the
    activation's scale and the channel's are real numbers. -/
theorem symmetric_finite_at (x : IVec S8192x4096 32) (w : IVec S4096x4096 32) (b : FVec Ideal S4096 .f32) (s : FVec Ideal S1 .f32)
    (z : IVec S1 32) (ws : FVec Ideal S4096 .f32) (wz : IVec S4096 32) (o : Fin 4096)
    (h : Cert.Pre_symmetric_finite.fn x w b s z ws wz (ix1 o) = 1#1) :
    z (ix1 0) = 0#32 ∧ wz (ix1 o) = 0#32 ∧ (∃ r : ℝ, s (ix1 0) = (r : EReal)) ∧ ∃ r : ℝ, ws (ix1 o) = (r : EReal) := by
  have and_one : ∀ p q : BitVec 1, IntOp.andi p q = 1#1 → p = 1#1 ∧ q = 1#1 := by decide
  have bit : ∀ p : Bool, BitVec.ofBool p = 1#1 → p = true := by decide
  have top : Ideal.ofBits .f32 2139095040#32 = ⊤ := by simp [Ideal.ofBits, Ideal.ieee]
  pointwise [Cert.Pre_symmetric_finite.fn] at h
  obtain ⟨h, hws⟩ := and_one _ _ h
  obtain ⟨h, hs⟩ := and_one _ _ h
  obtain ⟨hz, hwz⟩ := and_one _ _ h
  rw [top] at hs hws
  exact ⟨by simpa using bit _ hz, by simpa using bit _ hwz, real_of_abs_lt _ (of_decide_eq_true (bit _ hs)),
    real_of_abs_lt _ (of_decide_eq_true (bit _ hws))⟩

/-- The reference is the linear layer: where the precondition holds, the array the reference's program computes from its
    arguments is `linear` of them. -/
theorem reference_eq_linear (x : IVec S8192x4096 32) (w : IVec S4096x4096 32) (b : FVec Ideal S4096 .f32) (s : FVec Ideal S1 .f32)
    (z : IVec S1 32) (ws : FVec Ideal S4096 .f32) (wz : IVec S4096 32)
    (h : Cert.Pre_symmetric_finite.fn x w b s z ws wz = fun _ => 1#1) :
    addf (Host.dotGeneral dot_S8192x4096_S4096x4096_S8192x4096_1_1_0_0_n_n none
        (mulf (subf (sitofp .f32 x) (broadcastInDim S8192x4096 ![0, 1] bcast_S1x1_S8192x4096_0_1
            (broadcastInDim S1x1 ![1] bcast_S1_S1x1_1 (sitofp .f32 z))))
          (broadcastInDim S8192x4096 ![0, 1] bcast_S1x1_S8192x4096_0_1 (broadcastInDim S1x1 ![1] bcast_S1_S1x1_1 s)))
        (mulf (subf (sitofp .f32 w) (broadcastInDim S4096x4096 ![0, 1] bcast_S4096x1_S4096x4096_0_1
            (sitofp .f32 (broadcastInDim S4096x1 ![0] bcast_S4096_S4096x1_0 wz))))
          (broadcastInDim S4096x4096 ![0, 1] bcast_S4096x1_S4096x4096_0_1 (broadcastInDim S4096x1 ![0] bcast_S4096_S4096x1_0 ws))))
      (broadcastInDim S8192x4096 ![0, 1] bcast_S1x4096_S8192x4096_0_1 (broadcastInDim S1x4096 ![1] bcast_S4096_S1x4096_1 b))
      = linear x w b s ws := by
  funext i
  obtain ⟨r, o, rfl⟩ : ∃ (r : Fin 8192) (o : Fin 4096), i = ix2 r o := ⟨i 0, i 1, by funext d; fin_cases d <;> rfl⟩
  obtain ⟨hz, hwz, ⟨σ, hs⟩, ⟨τ, ht⟩⟩ := symmetric_finite_at x w b s z ws wz o (congrFun h (ix1 o))
  have zero : ((((0#32 : BitVec 32).toInt : ℤ) : ℝ) : EReal) = 0 := by simp
  pointwise
  rw [hz, hwz, hs, ht]
  show (∑ k : Fin 4096, (val (x (ix2 r k)) - val 0#32) * (σ : EReal) * ((val (w (ix2 o k)) - val 0#32) * (τ : EReal)) : EReal) + b (ix1 o)
    = (∑ k : Fin 4096, val (x (ix2 r k)) * val (w (ix2 o k))) * (s (ix1 0) * ws (ix1 o)) + b (ix1 o)
  rw [hs, ht, ← dequantised_dot, show val 0#32 = 0 from zero]
  simp only [sub_zero]

end Cert.LinearEquation

end
-- ==== Proof.Value.lean ====
/- The array the kernel leaves over the extended reals: the linear layer `Cert.LinearEquation.linear` of its arguments.

   Grid point `t ≥ 16` leaves the 256 output rows from `256 * (t - 16)` on, and the earlier points leave none; so the 32
   blocks of the later points cover the array, and each is read index by index. -/
module

public import proofs.«01_k».proof.Proof.Track
public import proofs.«01_k».proof.Proof.Equation

@[expose] public section

set_option maxRecDepth 16384

noncomputable section

namespace Cert.KernelIdeal.Resident

open Idealize.ShloMosaic Idealize.ShloMosaic.TcCoe Idealize.ShloMosaic.Tactic
open Cert.KernelIdeal Cert.KernelIdeal.Gen Cert.LinearEquation

/-- The activation block of a multiplying step `t` is row block `t - 16`. -/
theorem activation_index : ∀ t : Fin cfg0.N, 16 ≤ t.val → win0_0.index t = ![t.val - 16, 0] := by decide +kernel
/-- The output block of a multiplying step `t` is row block `t - 16`. -/
theorem output_index : ∀ t : Fin cfg0.N, 16 ≤ t.val → win0_5.index t = ![t.val - 16, 0] := by decide +kernel
/-- Every step is handed the whole one-element array of the activation's scale. -/
theorem scale_index : ∀ t : Fin cfg0.N, win0_2.index t = ![0, 0] := by decide +kernel
/-- Every step is handed the whole row of the weight channels' scales. -/
theorem scales_index : ∀ t : Fin cfg0.N, win0_3.index t = ![0, 0] := by decide +kernel
/-- Every step is handed the whole row of biases. -/
theorem bias_index : ∀ t : Fin cfg0.N, win0_4.index t = ![0, 0] := by decide +kernel

variable (m : (ℓ : Loc nD τ sig) → Buf (Elt Ideal) ℓ) (ρ : Dev nD → PrngReg)

/-- The kernel is handed the activation's scale reshaped to one row and one column. -/
theorem V_scale (c : Dev nD) : V m c main_v0 = shapeCast S1x1 (m ((c : Thread nD τ).loc main_arg3)) shapeCasts_S1_S1x1 := by
  show StableHlo.after hostOps0 _ (Proc.devRef .tc main_v0) = _
  after_results
  rfl
/-- The kernel is handed the channel scales reshaped to one row. -/
theorem V_scales (c : Dev nD) : V m c main_v1 = shapeCast S1x4096 (m ((c : Thread nD τ).loc main_arg5)) shapeCasts_S4096_S1x4096 := by
  show StableHlo.after hostOps0 _ (Proc.devRef .tc main_v1) = _
  after_results
  rfl
/-- The kernel is handed the biases reshaped to one row. -/
theorem V_bias (c : Dev nD) : V m c main_v2 = shapeCast S1x4096 (m ((c : Thread nD τ).loc main_arg2)) shapeCasts_S4096_S1x4096 := by
  show StableHlo.after hostOps0 _ (Proc.devRef .tc main_v2) = _
  after_results
  rfl

/-- What a multiplying step stores at row `r`, channel `o` of its block: the integers of row `r` of its activation block times
    row `o` of the scratch, summed, times the two scales, plus the bias. -/
theorem pay_apply (x : Vec Ideal S256x4096 .i32) (w : Vec Ideal S4096x4096 .bf16) (s : Vec Ideal S1x1 .f32)
    (ws b : Vec Ideal S1x4096 .f32) (r : Fin 256) (o : Fin 4096) :
    k0_pay2 x w s ws b (ix2 r o)
      = (∑ k : Fin 4096, val (x (ix2 r k)) * w (ix2 o k)) * (s (ix2 0 0) * ws (ix2 0 o)) + b (ix2 0 o) := by
  pointwise [k0_pay2]
  rfl

/-- The linear layer of device `c`'s arguments. -/
def layer (c : Dev nD) : FVec Ideal Cert.ReferenceIdeal.S8192x4096 .f32 :=
  linear (m ((c : Thread nD τ).loc main_arg0)) (m ((c : Thread nD τ).loc main_arg1)) (m ((c : Thread nD τ).loc main_arg2))
    (m ((c : Thread nD τ).loc main_arg3)) (m ((c : Thread nD τ).loc main_arg5))

/-- The row of the whole arrays that row `r` of a multiplying step's blocks is. -/
def row (t : Fin cfg0.N) (ht : 16 ≤ t.val) (r : Fin 256) : Fin 8192 :=
  ⟨(t.val - 16) * 256 + r.val, by have : t.val < 48 := t.isLt; omega⟩

/-- Row `r` of a multiplying step's activation block is row `row t ht r` of the activation. -/
theorem activation_apply (c : Dev nD) (t : Fin cfg0.N) (ht : 16 ≤ t.val) (r : Fin 256) (k : Fin 4096) :
    (iblk m c 0 t : Vec Ideal S256x4096 .i32) (ix2 r k)
      = (m ((c : Thread nD τ).loc main_arg0) : Vec Ideal S8192x4096 .i32) (ix2 (row t ht r) k) := by
  rw [← V_main_arg0 m c]
  show V m c main_arg0 ((win0_0.blk t).view.emb (ix2 r k)) = V m c main_arg0 (ix2 (row t ht r) k)
  refine congrArg _ (funext fun d => Fin.ext ?_)
  fin_cases d
  · show win0_0.index t 0 * 256 + 1 * r.val = (t.val - 16) * 256 + r.val
    rw [activation_index t ht]; show (t.val - 16) * 256 + 1 * r.val = _; omega
  · show win0_0.index t 1 * 4096 + 1 * k.val = k.val
    rw [activation_index t ht]; show 0 * 4096 + 1 * k.val = _; omega

/-- The scale a step reads is the activation's scale. -/
theorem scale_apply (c : Dev nD) (t : Fin cfg0.N) :
    (iblk m c 2 t : Vec Ideal S1x1 .f32) (ix2 0 0) = (m ((c : Thread nD τ).loc main_arg3) : Vec Ideal S1 .f32) (ix1 0) := by
  have e : (win0_2.blk t).view.emb (ix2 0 0) = (ix2 0 0 : S1x1.Idx) := by
    refine funext fun d => Fin.ext ?_
    fin_cases d
    · show win0_2.index t 0 * 1 + 1 * 0 = 0
      rw [scale_index]; rfl
    · show win0_2.index t 1 * 1 + 1 * 0 = 0
      rw [scale_index]; rfl
  show V m c main_v0 ((win0_2.blk t).view.emb (ix2 0 0)) = _
  rw [e, V_scale]
  pointwise

/-- An array of 4096 entries reshaped to one row holds entry `o` at column `o`. -/
theorem one_row_apply (v : Vec Ideal S4096 .f32) (o : Fin 4096) : shapeCast S1x4096 v shapeCasts_S4096_S1x4096 (ix2 0 o) = v (ix1 o) := by
  pointwise

/-- The channel scale a step reads for channel `o` is that channel's scale. -/
theorem scales_apply (c : Dev nD) (t : Fin cfg0.N) (o : Fin 4096) :
    (iblk m c 3 t : Vec Ideal S1x4096 .f32) (ix2 0 o) = (m ((c : Thread nD τ).loc main_arg5) : Vec Ideal S4096 .f32) (ix1 o) := by
  have e : (win0_3.blk t).view.emb (ix2 0 o) = (ix2 0 o : S1x4096.Idx) := by
    refine funext fun d => Fin.ext ?_
    fin_cases d
    · show win0_3.index t 0 * 1 + 1 * 0 = 0
      rw [scales_index]; rfl
    · show win0_3.index t 1 * 4096 + 1 * o.val = o.val
      rw [scales_index]; show 0 * 4096 + 1 * o.val = _; omega
  show V m c main_v1 ((win0_3.blk t).view.emb (ix2 0 o)) = _
  rw [e, V_scales]
  exact one_row_apply _ o

/-- The bias a step reads for channel `o` is that channel's bias. -/
theorem bias_apply (c : Dev nD) (t : Fin cfg0.N) (o : Fin 4096) :
    (iblk m c 4 t : Vec Ideal S1x4096 .f32) (ix2 0 o) = (m ((c : Thread nD τ).loc main_arg2) : Vec Ideal S4096 .f32) (ix1 o) := by
  have e : (win0_4.blk t).view.emb (ix2 0 o) = (ix2 0 o : S1x4096.Idx) := by
    refine funext fun d => Fin.ext ?_
    fin_cases d
    · show win0_4.index t 0 * 1 + 1 * 0 = 0
      rw [bias_index]; rfl
    · show win0_4.index t 1 * 4096 + 1 * o.val = o.val
      rw [bias_index]; show 0 * 4096 + 1 * o.val = _; omega
  show V m c main_v2 ((win0_4.blk t).view.emb (ix2 0 o)) = _
  rw [e, V_bias]
  exact one_row_apply _ o

/-- The scratch holds the weight's integers. -/
theorem weight_apply (c : Dev nD) (o k : Fin 4096) :
    weight m c (ix2 o k) = val ((m ((c : Thread nD τ).loc main_arg1) : Vec Ideal S4096x4096 .i32) (ix2 o k)) := by
  rw [← V_main_arg1 m c]
  rfl

/-- Row `r`, channel `o` of a multiplying step's output block is row `row t ht r`, channel `o` of the output. -/
theorem output_emb (t : Fin cfg0.N) (ht : 16 ≤ t.val) (r : Fin 256) (o : Fin 4096) :
    (win0_5.blk t).view.emb (ix2 r o) = (ix2 (row t ht r) o : S8192x4096.Idx) := by
  refine funext fun d => Fin.ext ?_
  fin_cases d
  · show win0_5.index t 0 * 256 + 1 * r.val = (t.val - 16) * 256 + r.val
    rw [output_index t ht]; show (t.val - 16) * 256 + 1 * r.val = _; omega
  · show win0_5.index t 1 * 4096 + 1 * o.val = o.val
    rw [output_index t ht]; show 0 * 4096 + 1 * o.val = _; omega

/-- After the last grid point the output array is the linear layer of the arguments. -/
theorem output_eq_layer (c : Dev nD) : (dats m 0 c).arrAt 5 cfg0.N = layer m c := by
  refine (dats m 0 c).arrAt_eq_of_covers 5 (layer m c) (by decide +kernel) fun t hf y => ?_
  have ht : 16 ≤ t.val := by
    by_contra h
    rw [out_kept t (by omega)] at hf
    exact Bool.false_ne_true hf
  rw [after5]
  blk_simp
  obtain ⟨r, o, rfl⟩ : ∃ (r : Fin 256) (o : Fin 4096), y = (ix2 r o : S256x4096.Idx) := ⟨y 0, y 1, by funext d; fin_cases d <;> rfl⟩
  rw [output_emb t ht]
  refine (pay_apply _ _ _ _ _ r o).trans ?_
  rw [scale_apply, scales_apply, bias_apply]
  simp only [activation_apply m c t ht, weight_apply]
  rfl

/-- A run of the kernel ends with the output array the linear layer of the arguments, on every device. -/
theorem run_layer : θ_run defs (onTc (τ := τ) (main (F := Ideal))) ⟨m, fun _ => 0, ρ⟩ (fun r => ∀ c : Dev nD,
    r.2.mem ((c : Thread nD τ).loc main_v3) = layer m c) :=
  (θ_run defs _ _).mono (fun _ h c => (h.1.out_eq c 5).trans (output_eq_layer m c)) (run m ρ)

end Cert.KernelIdeal.Resident

end
-- ==== Proof.lean ====
/- The five claims about the quantised linear layer: the kernel and the reference end with their arguments unchanged and every
   semaphore counter at zero, and over the extended reals they end with the same array wherever the zero points are zero and
   the scales are finite. Proof/Track.lean follows the kernel's run, Proof/Value.lean reads the array it leaves,
   Proof/Equation.lean proves the reference's array equal to the same formula. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_symmetric_finite
public import proofs.«01_k».proof.Proof.Value
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's body table as certified at machine floats is the one read over the extended reals: nothing was replaced. -/
theorem same_bodies : Cert.Kernel.defs₀ (F := Bits) = Cert.KernelIdeal.defs₀ (F := Bits) := by
  refine congrArg Defs.onTc (funext fun l => funext fun a => ?_)
  match l, a with
  | 0, (t, s) => rfl
  | ⟨_ + 1, h⟩, _ => exact absurd h (Nat.not_lt.2 (Nat.le_add_left _ _))

/-- So the whole programs' tables are one table. -/
theorem same_tables : Cert.Kernel.defs (F := Bits) = Cert.KernelIdeal.defs (F := Bits) :=
  congrArg (Pipeline.defs Cert.KernelIdeal.pcfgs) same_bodies

/-- At machine floats a run of the kernel ends with its arguments unchanged and every semaphore counter at zero: the run was
    followed at every reading of the floats, this one among them. -/
theorem kernel_unchanged : Cert.quiescent_Kernel := by
  intro m g _
  rw [same_tables]
  exact Cert.KernelIdeal.Resident.unchanged (F := Bits) m g

/-- A run of the reference ends with its arguments unchanged and every semaphore counter at zero: its program has no
    semaphore. -/
theorem reference_unchanged (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Where the zero points are zero and the scales finite, the kernel and the reference, started on the same arguments, end
    with the same array: the linear layer of those arguments. -/
theorem same_layer : Cert.algebraic_KernelIdeal_ReferenceIdeal_pre_symmetric_finite := by
  intro m g m' g' hpre harg
  refine ⟨Cert.KernelIdeal.Resident.layer m, ?_, ?_⟩
  · exact (θ_run Cert.KernelIdeal.defs _ _).mono (fun _ h c => ⟨h.1 c, h.2.1 c⟩)
      (θ_run_and (Cert.KernelIdeal.Resident.run_layer m g) (Cert.KernelIdeal.Resident.unchanged m g))
  · refine (θ_run Cert.ReferenceIdeal.defs _ _).mono (fun _ h c => ⟨(h c).1.trans ?_, (h c).2⟩)
      (Cert.ReferenceIdeal.Value.run (F := Ideal) m' g')
    obtain ⟨e0, e1, e2, e3, e4, e5, e6⟩ := harg c
    rw [e0, e1, e2, e3, e4, e5, e6]
    exact Cert.LinearEquation.reference_eq_linear _ _ _ _ _ _ _ (hpre c)

/-- Every claim of the certificate. -/
theorem claim : Cert.Claim := ⟨Cert.Kernel.Gen.facts, Cert.KernelIdeal.Gen.facts, Cert.ReferenceIdeal.Gen.facts, Cert.Pre_symmetric_finite.Gen.facts,
  kernel_unchanged,
  fun m ρ _ => Cert.KernelIdeal.Resident.unchanged m ρ,
  fun m ρ _ => Cert.KernelIdeal.Resident.unchanged m ρ,
  fun m ρ _ => reference_unchanged m ρ,
  fun m ρ _ => reference_unchanged m ρ,
  trivial, same_layer⟩

end Cert.Proof

end
